-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048x3 : Shape := ⟨3, ![64, 2048, 3]⟩
abbrev S3x128 : Shape := ⟨2, ![3, 128]⟩
abbrev S64x1x128 : Shape := ⟨3, ![64, 1, 128]⟩
abbrev S1x2048x3 : Shape := ⟨3, ![1, 2048, 3]⟩
abbrev S1x1x128 : Shape := ⟨3, ![1, 1, 128]⟩
abbrev S2048x3 : Shape := ⟨2, ![2048, 3]⟩
abbrev S2048x1 : Shape := ⟨2, ![2048, 1]⟩
abbrev S1x128 : Shape := ⟨2, ![1, 128]⟩
abbrev S2048x128 : Shape := ⟨2, ![2048, 128]⟩
abbrev S2048x256 : Shape := ⟨2, ![2048, 256]⟩
abbrev S1024x2x1x256 : Shape := ⟨4, ![1024, 2, 1, 256]⟩
abbrev S1024x1x1x256 : Shape := ⟨4, ![1024, 1, 1, 256]⟩
abbrev S1024x1x256 : Shape := ⟨3, ![1024, 1, 256]⟩
abbrev S1024x1x1 : Shape := ⟨3, ![1024, 1, 1]⟩
abbrev S512x2x2x256 : Shape := ⟨4, ![512, 2, 2, 256]⟩
abbrev S512x1x2x256 : Shape := ⟨4, ![512, 1, 2, 256]⟩
abbrev S512x2x256 : Shape := ⟨3, ![512, 2, 256]⟩
abbrev S512x1x1 : Shape := ⟨3, ![512, 1, 1]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S256x1x1 : Shape := ⟨3, ![256, 1, 1]⟩
abbrev S128x2x8x256 : Shape := ⟨4, ![128, 2, 8, 256]⟩
abbrev S128x1x8x256 : Shape := ⟨4, ![128, 1, 8, 256]⟩
abbrev S128x8x256 : Shape := ⟨3, ![128, 8, 256]⟩
abbrev S128x1x1 : Shape := ⟨3, ![128, 1, 1]⟩
abbrev S64x2x16x256 : Shape := ⟨4, ![64, 2, 16, 256]⟩
abbrev S64x1x16x256 : Shape := ⟨4, ![64, 1, 16, 256]⟩
abbrev S64x16x256 : Shape := ⟨3, ![64, 16, 256]⟩
abbrev S64x1x1 : Shape := ⟨3, ![64, 1, 1]⟩
abbrev S32x2x32x256 : Shape := ⟨4, ![32, 2, 32, 256]⟩
abbrev S32x1x32x256 : Shape := ⟨4, ![32, 1, 32, 256]⟩
abbrev S32x32x256 : Shape := ⟨3, ![32, 32, 256]⟩
abbrev S32x1x1 : Shape := ⟨3, ![32, 1, 1]⟩
abbrev S16x2x64x256 : Shape := ⟨4, ![16, 2, 64, 256]⟩
abbrev S16x1x64x256 : Shape := ⟨4, ![16, 1, 64, 256]⟩
abbrev S16x64x256 : Shape := ⟨3, ![16, 64, 256]⟩
abbrev S16x1x1 : Shape := ⟨3, ![16, 1, 1]⟩
abbrev S8x2x128x256 : Shape := ⟨4, ![8, 2, 128, 256]⟩
abbrev S8x1x128x256 : Shape := ⟨4, ![8, 1, 128, 256]⟩
abbrev S8x128x256 : Shape := ⟨3, ![8, 128, 256]⟩
abbrev S8x1x1 : Shape := ⟨3, ![8, 1, 1]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S4x1x1 : Shape := ⟨3, ![4, 1, 1]⟩
abbrev S2x2x512x256 : Shape := ⟨4, ![2, 2, 512, 256]⟩
abbrev S2x1x512x256 : Shape := ⟨4, ![2, 1, 512, 256]⟩
abbrev S2x512x256 : Shape := ⟨3, ![2, 512, 256]⟩
abbrev S2x1x1 : Shape := ⟨3, ![2, 1, 1]⟩
abbrev S1x2x1024x256 : Shape := ⟨4, ![1, 2, 1024, 256]⟩
abbrev S1x1x1024x256 : Shape := ⟨4, ![1, 1, 1024, 256]⟩
abbrev S1x1024x256 : Shape := ⟨3, ![1, 1024, 256]⟩
abbrev S128 : Shape := ⟨1, ![128]⟩
abbrev S64x128 : Shape := ⟨2, ![64, 128]⟩
abbrev S_ : Shape := ⟨0, ![]⟩
abbrev S64 : Shape := ⟨1, ![64]⟩

abbrev nBuf : Space → Nat
  | .hbm => 15
  | .vmem => 7
  | .smem => 0
  | _ => 0

abbrev bufTy : (tb : Table) → Fin (tcTables nBuf tb) → BufTy
  | .hbm, ⟨0, _⟩ => ⟨S64x2048x3, .f32⟩
  | .hbm, ⟨1, _⟩ => ⟨S64x2048x3, .f32⟩
  | .hbm, ⟨2, _⟩ => ⟨S3x128, .f32⟩
  | .hbm, ⟨3, _⟩ => ⟨S64x1x128, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S3x128, .f32⟩
  | .local _ .vmem, ⟨5, _⟩ => ⟨S1x1x128, .f32⟩
  | .local _ .vmem, ⟨6, _⟩ => ⟨S1x1x128, .f32⟩
  | _, _ => ⟨S64x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c0_i32 : BitVec 32 := 0#32
  let v0 : BitVec 32 := Scalar.muli arg0 c0_i32
  let v1 : Index := Scalar.indexCast v0
  let c0 : Index := 0#32
  let c0_0 : Index := 0#32
  ![v1.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x2048x3 : Shape := ⟨3, ![64, 2048, 3]⟩
abbrev S128x3 : Shape := ⟨2, ![128, 3]⟩
abbrev S128x64x2048 : Shape := ⟨3, ![128, 64, 2048]⟩
abbrev S64x128x2048 : Shape := ⟨3, ![64, 128, 2048]⟩
abbrev S_ : Shape := ⟨0, ![]⟩
abbrev S64x128 : Shape := ⟨2, ![64, 128]⟩
abbrev S64 : Shape := ⟨1, ![64]⟩

abbrev nBuf : Space → Nat
  | .hbm => 26
  | .vmem => 0
  | .smem => 0
  | _ => 0

abbrev bufTy : (tb : Table) → Fin (tcTables nBuf tb) → BufTy
  | .hbm, ⟨0, _⟩ => ⟨S64x2048x3, .f32⟩
  | .hbm, ⟨1, _⟩ => ⟨S64x2048x3, .f32⟩
  | .hbm, ⟨2, _⟩ => ⟨S128x3, .f32⟩
  | .hbm, ⟨3, _⟩ => ⟨S128x64x2048, .f32⟩
  | .hbm, ⟨4, _⟩ => ⟨S64x128x2048, .f32⟩
  | .hbm, ⟨5, _⟩ => ⟨S128x64x2048, .f32⟩
  | .hbm, ⟨6, _⟩ => ⟨S64x128x2048, .f32⟩
  | .hbm, ⟨7, _⟩ => ⟨S64x128x2048, .f32⟩
  | .hbm, ⟨8, _⟩ => ⟨S64x128x2048, .f32⟩
  | .hbm, ⟨9, _⟩ => ⟨S64x128x2048, .f32⟩
  | .hbm, ⟨10, _⟩ => ⟨S64x128x2048, .f32⟩
  | .hbm, ⟨11, _⟩ => ⟨S_, .f32⟩
  | .hbm, ⟨12, _⟩ => ⟨S64x128x2048, .f32⟩
  | .hbm, ⟨13, _⟩ => ⟨S64x128x2048, .f32⟩
  | .hbm, ⟨14, _⟩ => ⟨S_, .f32⟩
  | .hbm, ⟨15, _⟩ => ⟨S64x128, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S64x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Net.lean ====
module

public import proofs.«01_k».proof.Proof.Gen.KernelIdeal.Frame
public import Idealize.ShloMosaic.Lib.ShapeFacts
import Mathlib.Tactic.Ring

@[expose] public section

set_option maxRecDepth 16384

/-! The kernel's 66 compare-and-exchange stages, each written once at symbolic extents. -/

noncomputable section

namespace Cert.KernelIdeal.Net

open Idealize.ShloMosaic Idealize.SL.Sem
open Cert.KernelIdeal Cert.KernelIdeal.Gen

variable {F : FTy → Type} [FloatOps F]

/-- A table of 2048 rows and 256 columns. -/
abbrev Tab (F : FTy → Type) := FVec F S2048x256 .f32
/-- The table's rows in `g` groups of two halves of `j` rows. -/
abbrev G4 (g j : Nat) : Shape := ⟨4, ![g, 2, j, 256]⟩
/-- One half of every group, the halves' axis kept. -/
abbrev G41 (g j : Nat) : Shape := ⟨4, ![g, 1, j, 256]⟩
/-- One half of every group. -/
abbrev G3 (g j : Nat) : Shape := ⟨3, ![g, j, 256]⟩
/-- One word per group. -/
abbrev GW (g : Nat) : Shape := ⟨3, ![g, 1, 1]⟩

/-- The table regroups into `g` groups of two halves of `j` rows when these make up its 2048 rows. -/
theorem casts_in {g j : Nat} (h : g * (2 * j) = 2048) : S2048x256.ShapeCasts (G4 g j) := by
  show (G4 g j).numel = S2048x256.numel
  rw [Shape.numel_rank4, Shape.numel_rank2]
  show g * 2 * j * 256 = 2048 * 256
  rw [← h]; ring

/-- And back. -/
theorem casts_out {g j : Nat} (h : g * (2 * j) = 2048) : (G4 g j).ShapeCasts S2048x256 := (casts_in h).symm

/-- Dropping the halves' axis keeps the number of elements. -/
theorem casts_half (g j : Nat) : (G41 g j).ShapeCasts (G3 g j) := by
  show (G3 g j).numel = (G41 g j).numel
  rw [Shape.numel_rank4, Shape.numel_rank3]
  show g * j * 256 = g * 1 * j * 256
  ring

/-- And putting it back. -/
theorem casts_unhalf (g j : Nat) : (G3 g j).ShapeCasts (G41 g j) := (casts_half g j).symm

/-- The low halves lie inside the groups. -/
theorem slices_lo (g j : Nat) : (G4 g j).Slices ![0, 0, 0, 0] (G41 g j) :=
  ⟨rfl, fun a => by fin_cases a <;> simp⟩

/-- The high halves lie inside the groups. -/
theorem slices_hi (g j : Nat) : (G4 g j).Slices ![0, 1, 0, 0] (G41 g j) :=
  ⟨rfl, fun a => by fin_cases a <;> simp⟩

/-- The groups can be numbered along their axis. -/
theorem iotas_g (g : Nat) : (GW g).Iotas .tc 32 [0] :=
  ⟨List.nodup_singleton _, fun _ => ⟨.inr rfl, (by decide : 2 ≤ 3)⟩, fun h => absurd rfl h⟩

/-- One word per group spreads over the group's half. -/
theorem broadcasts_g (g j : Nat) : (GW g).Broadcasts (G3 g j) :=
  ⟨Nat.le_refl 3, fun a => by fin_cases a <;> first | exact .inl rfl | exact .inr fun _ => rfl⟩

/-- Two halves make up the groups. -/
theorem concats_g (g j : Nat) : Shape.Concatenates [G41 g j, G41 g j] (G4 g j) 1 :=
  Shape.concatenates_axis1_rank4 g 1 1 j 256

/-- The low half of every group. -/
def low {g j : Nat} (v : FVec F (G4 g j) .f32) : FVec F (G3 g j) .f32 :=
  shapeCast (G3 g j) (extractStridedSlice (G41 g j) ![0, 0, 0, 0] v (slices_lo g j)) (casts_half g j)

/-- The high half of every group. -/
def high {g j : Nat} (v : FVec F (G4 g j) .f32) : FVec F (G3 g j) .f32 :=
  shapeCast (G3 g j) (extractStridedSlice (G41 g j) ![0, 1, 0, 0] v (slices_hi g j)) (casts_half g j)

/-- Two halves put back as groups. -/
def join {g j : Nat} (a b : FVec F (G3 g j) .f32) : FVec F (G4 g j) .f32 :=
  concatenate (G4 g j) 1 [⟨G41 g j, shapeCast (G41 g j) a (casts_unhalf g j)⟩,
    ⟨G41 g j, shapeCast (G41 g j) b (casts_unhalf g j)⟩] (concats_g g j)

/-- Which groups go upward: those whose first row has the bit `k` clear. -/
def upward (g j k : Nat) : IVec (G3 g j) 1 :=
  broadcastTo (G3 g j) (shapeCast (GW g) (cmpi .eq (andi (muli (iota .tc (GW g) 32 [0] (iotas_g g))
    (broadcast (GW g) (BitVec.ofNat 32 (2 * j)))) (broadcast (GW g) (BitVec.ofNat 32 k)))
    (broadcast (GW g) 0#32)) (Shape.shapeCasts_self _)) (broadcasts_g g j)

/-- A compare-and-exchange of a table's groups, upward or downward by the group. -/
def exch {g j : Nat} (k : Nat) (v : FVec F (G4 g j) .f32) : FVec F (G4 g j) .f32 :=
  join (select (upward g j k) (minimumf (low v) (high v)) (maximumf (low v) (high v)))
    (select (upward g j k) (maximumf (low v) (high v)) (minimumf (low v) (high v)))

/-- A compare-and-exchange of a table's groups, all upward. -/
def exchUp {g j : Nat} (v : FVec F (G4 g j) .f32) : FVec F (G4 g j) .f32 :=
  join (minimumf (low v) (high v)) (maximumf (low v) (high v))

/-- At distance `2 ^ s` the groups make up 2048 rows. -/
theorem groups_mul {s : Nat} (hs : s ≤ 10) : 2 ^ (10 - s) * (2 * 2 ^ s) = 2048 := by
  have : 2 * 2 ^ s = 2 ^ (s + 1) := by rw [pow_succ]; ring
  rw [this, ← pow_add, show 10 - s + (s + 1) = 11 by omega]; rfl

/-- One stage: rows `2 ^ s` apart are compared, the direction by the bit `2 ^ (l + 1)` of the row. -/
def stg (l s : Nat) (hs : s ≤ 10) (a : Tab F) : Tab F :=
  shapeCast S2048x256 (exch (2 ^ (l + 1)) (shapeCast (G4 (2 ^ (10 - s)) (2 ^ s)) a (casts_in (groups_mul hs))))
    (casts_out (groups_mul hs))

/-- One stage of the last level, all upward. -/
def stgUp (s : Nat) (hs : s ≤ 10) (a : Tab F) : Tab F :=
  shapeCast S2048x256 (exchUp (shapeCast (G4 (2 ^ (10 - s)) (2 ^ s)) a (casts_in (groups_mul hs))))
    (casts_out (groups_mul hs))

/-- A level's stages from distance `2 ^ s` down to one. -/
def down (l : Nat) : (s : Nat) → s ≤ 10 → Tab F → Tab F
  | 0, hs, a => stg l 0 hs a
  | s + 1, hs, a => down l s (Nat.le_of_succ_le hs) (stg l (s + 1) hs a)

/-- The levels `0` to `l`. -/
def levels : (l : Nat) → l ≤ 10 → Tab F → Tab F
  | 0, hl, a => down 0 0 hl a
  | l + 1, hl, a => down (l + 1) (l + 1) hl (levels l (Nat.le_of_succ_le hl) a)

/-- The last level's stages from distance `2 ^ s` down to two. -/
def downUp : (s : Nat) → s ≤ 10 → Tab F → Tab F
  | 0, _, a => a
  | s + 1, hs, a => downUp s (Nat.le_of_succ_le hs) (stgUp (s + 1) hs a)

/-- All stages but for the last regrouping: the value the block's sum is taken of. -/
def net (a : Tab F) : FVec F S1024x2x1x256 .f32 :=
  exchUp (g := 1024) (j := 1) (shapeCast (G4 1024 1) (downUp 10 (le_refl _) (levels 9 (by decide) a)) (casts_in rfl))

/-- One product of a projection: a column of points times a row of directions. -/
def term (d : Fin 3) (h : S2048x3.Slices ![0, d.val] S2048x1) (h' : S3x128.Slices ![d.val, 0] S1x128)
    (v : FVec F S2048x3 .f32) (w : FVec F S3x128 .f32) : FVec F S2048x128 .f32 :=
  mulf (broadcastTo S2048x128 (extractStridedSlice S2048x1 ![0, d.val] v h) broadcasts_S2048x1_S2048x128)
    (broadcastTo S2048x128 (extractStridedSlice S1x128 ![d.val, 0] w h') broadcasts_S1x128_S2048x128)

/-- The projections of one set of points on every direction. -/
def side (v : Vec F S1x2048x3 .f32) (w : Vec F S3x128 .f32) : FVec F S2048x128 .f32 :=
  addf (addf
    (term 0 slices_S2048x3_o0_0_S2048x1 slices_S3x128_o0_0_S1x128 (shapeCast S2048x3 v shapeCasts_S1x2048x3_S2048x3) w)
    (term 1 slices_S2048x3_o0_1_S2048x1 slices_S3x128_o1_0_S1x128 (shapeCast S2048x3 v shapeCasts_S1x2048x3_S2048x3) w))
    (term 2 slices_S2048x3_o0_2_S2048x1 slices_S3x128_o2_0_S1x128 (shapeCast S2048x3 v shapeCasts_S1x2048x3_S2048x3) w)

/-- The table of projections before any stage: the first set's columns, then the second's. -/
def proj (v2 v4 : Vec F S1x2048x3 .f32) (v6 : Vec F S3x128 .f32) : Tab F :=
  concatenate S2048x256 1 [⟨S2048x128, side v2 v6⟩, ⟨S2048x128, side v4 v6⟩]
    concatenates_S2048x128_S2048x128_S2048x256_d1

/-- The kernel's run stores one piece, the block's sums over the sorted table. -/
theorem piece0 (c : Dev nD) (i : grid0.Coords) (arg1 : Memref sig .tc .vmem S1x2048x3 .f32) (harg1 : arg1.IsWhole)
    (arg2 : Memref sig .tc .vmem S1x2048x3 .f32) (harg2 : arg2.IsWhole) (arg3 : Memref sig .tc .vmem S3x128 .f32)
    (harg3 : arg3.IsWhole) (arg4 : Memref sig .tc .vmem S1x1x128 .f32) (harg4 : arg4.IsWhole)
    (x0 : Vec F S1x2048x3 .f32) (x1 : Vec F S1x2048x3 .f32) (x2 : Vec F S3x128 .f32) :
    (kernelRun0_A c i arg1 harg1 arg2 harg2 arg3 harg3 arg4 harg4 x0 x1 x2).1
      = [⟨Rect.unit ![0, 0, 0] S1x1x128.size inb_S1x1x128_S1x1x128_0_0_0, k0_pay1 (net (proj
          (View.readAt (Elt F) arg1.view (Rect.unit (k0_off1 i) S1x2048x3.size (k0_off1_inb i)).toLoadRect (harg1.unread x0))
          (View.readAt (Elt F) arg2.view (Rect.unit ![0, 0, 0] S1x2048x3.size inb_S1x2048x3_S1x2048x3_0_0_0).toLoadRect (harg2.unread x1))
          (View.readAt (Elt F) arg3.view (Rect.unit ![0, 0] S3x128.size inb_S3x128_S3x128_0_0).toLoadRect (harg3.unread x2))))⟩] := by
  sl_kernel_rfl

end Cert.KernelIdeal.Net
-- ==== Proof.Stage.lean ====
module

public import proofs.«01_k».proof.Proof.Net
public import Idealize.ShloMosaic.Lib.SortNet.Sorts
public import Idealize.ShloMosaic.Lib.WordCmp
public import Idealize.ShloMosaic.Lib.Pipeline.Value
public import Idealize.ShloMosaic.Lib.Pointwise.ShapeOps
import Mathlib.Tactic.Ring

@[expose] public section

set_option maxRecDepth 16384

/-! Every column of the table goes through the bitonic sorting network, and leaves it sorted. -/

noncomputable section

namespace Cert.KernelIdeal.Net

open Idealize.ShloMosaic Idealize.SL.Sem
open Idealize.ShloMosaic.SortNet
open Cert.KernelIdeal Cert.KernelIdeal.Gen

/-! ## One exchange at an index -/

variable {g j : Nat}

/-- The low half of a group at an index. -/
theorem low_apply (v : FVec Ideal (G4 g j) .f32) (q : Fin g) (t : Fin j) (p : Fin 256) :
    low v (ix3 q t p) = v (ix4 q 0 t p) := by
  unfold low
  rw [shapeCast_apply _ _ (ix3 q t p) (ix4 (n1 := 1) q 0 t p) (by
    rw [Shape.rowMajor_val_four, Shape.rowMajor_val_three]; simp)]
  refine congrArg v (funext fun a => Fin.ext ?_)
  fin_cases a <;> simp [ix4]

/-- The high half of a group at an index. -/
theorem high_apply (v : FVec Ideal (G4 g j) .f32) (q : Fin g) (t : Fin j) (p : Fin 256) :
    high v (ix3 q t p) = v (ix4 q 1 t p) := by
  unfold high
  rw [shapeCast_apply _ _ (ix3 q t p) (ix4 (n1 := 1) q 0 t p) (by
    rw [Shape.rowMajor_val_four, Shape.rowMajor_val_three]; simp)]
  refine congrArg v (funext fun a => Fin.ext ?_)
  fin_cases a <;> simp [ix4]

/-- Joined halves hold the first one low. -/
theorem join_lo (a b : FVec Ideal (G3 g j) .f32) (q : Fin g) (t : Fin j) (p : Fin 256) :
    join a b (ix4 q 0 t p) = a (ix3 q t p) := by
  unfold join
  refine (concatenate_pair_apply_left (t := G4 g j) (s₁ := G41 g j) (s₂ := G41 g j) (1 : Fin 4) _ _ (concats_g g j) (ix4 q 0 t p) rfl
    (ix4 (n1 := 1) q 0 t p) (by intro b; fin_cases b <;> rfl)).trans ?_
  exact shapeCast_apply _ _ _ _ (by rw [Shape.rowMajor_val_four, Shape.rowMajor_val_three]; simp)

/-- Joined halves hold the second one high. -/
theorem join_hi (a b : FVec Ideal (G3 g j) .f32) (q : Fin g) (t : Fin j) (p : Fin 256) :
    join a b (ix4 q 1 t p) = b (ix3 q t p) := by
  unfold join
  refine (concatenate_pair_apply_right (t := G4 g j) (s₁ := G41 g j) (s₂ := G41 g j) (1 : Fin 4) _ _ (concats_g g j) (ix4 q 1 t p) rfl rfl
    (ix4 (n1 := 1) q 0 t p) (by intro b hb; fin_cases b <;> first | rfl | exact absurd rfl hb) (by rfl)).trans ?_
  exact shapeCast_apply _ _ _ _ (by rw [Shape.rowMajor_val_four, Shape.rowMajor_val_three]; simp)

/-- The direction of a group as a word. -/
theorem upward_apply (k : Nat) (q : Fin g) (t : Fin j) (p : Fin 256) :
    upward g j k (ix3 q t p)
      = BitVec.ofBool (BitVec.ofNat 32 (q.val * (2 * j) &&& k) == 0#32) := by
  unfold upward
  rw [broadcastTo_apply _ _ _ (ix3 (n1 := 1) (n2 := 1) q 0 0) (by
    intro a; fin_cases a
    · by_cases hg : g = 1
      · subst hg; simp [ix3]
      · simp [ix3, hg]
    · simp [ix3]
    · simp [ix3])]
  rw [shapeCast_self]
  show BitVec.ofBool ((BitVec.ofNat 32 (0 * g + q.val) * BitVec.ofNat 32 (2 * j)) &&& BitVec.ofNat 32 k == 0#32) = _
  rw [Nat.zero_mul, Nat.zero_add, ← BitVec.ofNat_mul, ← BitVec.ofNat_and]

/-- Whether the group `q` goes upward, as a proposition about naturals. -/
theorem upward_one {k : Nat} (hk : k < 2 ^ 32) (q : Fin g) (t : Fin j) (p : Fin 256) :
    upward g j k (ix3 q t p) = 1 ↔ q.val * (2 * j) &&& k = 0 := by
  rw [upward_apply]
  have hlt : q.val * (2 * j) &&& k < 2 ^ 32 := lt_of_le_of_lt Nat.and_le_right hk
  constructor
  · intro h
    by_contra hne
    have : (BitVec.ofNat 32 (q.val * (2 * j) &&& k) == 0#32) = false := by
      rw [beq_eq_false_iff_ne]
      intro e
      have := congrArg BitVec.toNat e
      rw [BitVec.toNat_ofNat, Nat.mod_eq_of_lt hlt] at this
      exact hne this
    rw [this] at h
    exact absurd h (by decide)
  · intro h
    rw [h]; rfl

/-- What a directed exchange leaves in a low half. -/
theorem exch_lo {k : Nat} (hk : k < 2 ^ 32) (v : FVec Ideal (G4 g j) .f32) (q : Fin g) (t : Fin j) (p : Fin 256) :
    exch k v (ix4 q 0 t p) = if q.val * (2 * j) &&& k = 0 then min (v (ix4 q 0 t p)) (v (ix4 q 1 t p))
      else max (v (ix4 q 0 t p)) (v (ix4 q 1 t p)) := by
  unfold exch
  rw [join_lo, ← low_apply v q t p, ← high_apply v q t p]
  show (if upward g j k (ix3 q t p) = 1 then _ else _) = _
  rw [if_congr (upward_one hk q t p) rfl rfl]
  rfl

/-- What a directed exchange leaves in a high half. -/
theorem exch_hi {k : Nat} (hk : k < 2 ^ 32) (v : FVec Ideal (G4 g j) .f32) (q : Fin g) (t : Fin j) (p : Fin 256) :
    exch k v (ix4 q 1 t p) = if q.val * (2 * j) &&& k = 0 then max (v (ix4 q 0 t p)) (v (ix4 q 1 t p))
      else min (v (ix4 q 0 t p)) (v (ix4 q 1 t p)) := by
  unfold exch
  rw [join_hi, ← low_apply v q t p, ← high_apply v q t p]
  show (if upward g j k (ix3 q t p) = 1 then _ else _) = _
  rw [if_congr (upward_one hk q t p) rfl rfl]
  rfl

/-- What an upward exchange leaves in a low half: the smaller. -/
theorem exchUp_lo (v : FVec Ideal (G4 g j) .f32) (q : Fin g) (t : Fin j) (p : Fin 256) :
    exchUp v (ix4 q 0 t p) = min (v (ix4 q 0 t p)) (v (ix4 q 1 t p)) := by
  unfold exchUp
  rw [join_lo, ← low_apply v q t p, ← high_apply v q t p]
  rfl

/-- What an upward exchange leaves in a high half: the larger. -/
theorem exchUp_hi (v : FVec Ideal (G4 g j) .f32) (q : Fin g) (t : Fin j) (p : Fin 256) :
    exchUp v (ix4 q 1 t p) = max (v (ix4 q 0 t p)) (v (ix4 q 1 t p)) := by
  unfold exchUp
  rw [join_hi, ← low_apply v q t p, ← high_apply v q t p]
  rfl

/-! ## One stage on a column -/

/-- A column of the table. -/
def col (a : Tab Ideal) (p : Fin 256) : Fin (2 ^ 11) → EReal := fun r => a (ix2 (n0 := 2048) (n1 := 256) r p)

/-- A row of groups put back as a table, by its group, half and place. -/
theorem out_apply (h : g * (2 * j) = 2048) (v : FVec Ideal (G4 g j) .f32) (q : Fin g) (b : Fin 2) (t : Fin j)
    (p : Fin 256) (r : Fin (2 ^ 11)) (hr : r.val = q.val * (2 * j) + b.val * j + t.val) :
    col (shapeCast S2048x256 v (casts_out h)) p r = v (ix4 q b t p) := by
  refine shapeCast_apply _ _ _ _ ?_
  rw [Shape.rowMajor_val_four, Shape.rowMajor_val_two]
  show ((q.val * 2 + b.val) * j + t.val) * 256 + p.val = r.val * 256 + p.val
  rw [hr]; ring

/-- A group's entry is the table's at the row it came from. -/
theorem in_apply (h : g * (2 * j) = 2048) (a : Tab Ideal) (q : Fin g) (b : Fin 2) (t : Fin j)
    (p : Fin 256) (r : Fin (2 ^ 11)) (hr : r.val = q.val * (2 * j) + b.val * j + t.val) :
    shapeCast (G4 g j) a (casts_in h) (ix4 q b t p) = col a p r := by
  refine shapeCast_apply _ _ _ _ ?_
  rw [Shape.rowMajor_val_four, Shape.rowMajor_val_two]
  show r.val * 256 + p.val = ((q.val * 2 + b.val) * j + t.val) * 256 + p.val
  rw [hr]; ring

/-- A position with bit `s` clear, by its group and its place in the group's low half. -/
theorem place {s : Nat} (hs : s ≤ 10) (i : Fin (2 ^ 11)) (hi : i.val &&& 2 ^ s = 0) :
    ∃ (q : Fin (2 ^ (10 - s))) (t : Fin (2 ^ s)), i.val = q.val * (2 * 2 ^ s) + t.val := by
  rw [and_two_pow_eq_zero_iff_testBit, Nat.testBit_eq_decide_div_mod_eq] at hi
  have hb : i.val / 2 ^ s % 2 = 0 := by
    have := Nat.mod_two_eq_zero_or_one (i.val / 2 ^ s)
    rcases this with h | h
    · exact h
    · rw [h] at hi; simp at hi
  have e1 := Nat.div_add_mod i.val (2 ^ s)
  have e2 := Nat.div_add_mod (i.val / 2 ^ s) 2
  have e : i.val = i.val / 2 ^ s / 2 * (2 * 2 ^ s) + i.val % 2 ^ s := by
    rw [hb, Nat.add_zero] at e2
    conv_lhs => rw [← e1, ← e2]
    ring
  refine ⟨⟨i.val / 2 ^ s / 2, ?_⟩, ⟨i.val % 2 ^ s, Nat.mod_lt _ (Nat.two_pow_pos s)⟩, e⟩
  rw [Nat.div_div_eq_div_mul, Nat.div_lt_iff_lt_mul (Nat.mul_pos (Nat.two_pow_pos s) (by decide)), Nat.mul_comm (2 ^ s) 2,
    groups_mul hs]
  exact i.isLt

/-- A stage of the network at a table: what it leaves at a position and at its partner. -/
theorem col_of_pair {s : Nat} (hs : s ≤ 10) (w : Fin (2 ^ 11) → Bool) (a b : Tab Ideal) (p : Fin 256)
    (h : ∀ (i : Fin (2 ^ 11)) (hi : i.val &&& 2 ^ s = 0),
      col b p i = (if w i then max (col a p i) (col a p (partner 11 s i)) else min (col a p i) (col a p (partner 11 s i)))
      ∧ col b p (partner 11 s i)
        = (if w i then min (col a p i) (col a p (partner 11 s i)) else max (col a p i) (col a p (partner 11 s i)))) :
    col b p = Network.apply (stage 11 s w) (col a p) := by
  have hs' : s < 11 := by omega
  funext r
  by_cases hr : r.val &&& 2 ^ s = 0
  · rw [(h r hr).1, (apply_stage hs' w (col a p) r hr).1]
  · have hc := partner_and_of_set hs' r hr
    have h1 := (h _ hc).2
    have h2 := (apply_stage hs' w (col a p) _ hc).2
    rw [partner_partner hs'] at h1 h2
    rw [h1, h2]

/-- Places within a group don't reach the direction's bit. -/
theorem testBit_place {s l q t : Nat} (hsl : s ≤ l) (ht : t < 2 ^ s) :
    (q * (2 * 2 ^ s) + t) &&& 2 ^ (l + 1) = 0 ↔ q * (2 * 2 ^ s) &&& 2 ^ (l + 1) = 0 := by
  rw [and_two_pow_eq_zero_iff_testBit, and_two_pow_eq_zero_iff_testBit]
  have e : q * (2 * 2 ^ s) = 2 ^ (s + 1) * q := by rw [pow_succ]; ring
  have ht' : t < 2 ^ (s + 1) := by rw [pow_succ]; omega
  rw [e, Nat.testBit_two_pow_mul_add q ht', ← Nat.add_zero (2 ^ (s + 1) * q), Nat.testBit_two_pow_mul_add q (Nat.two_pow_pos _)]
  rw [if_neg (by omega), if_neg (by omega)]

/-- A directed stage is the network's stage on every column. -/
theorem col_stg {l s : Nat} (hs : s ≤ 10) (hsl : s ≤ l) (hl : l ≤ 9) (a : Tab Ideal) (p : Fin 256) :
    col (stg l s hs a) p
      = Network.apply (stage 11 s fun i => (decide (i.val &&& 2 ^ (l + 1) = 0)) == false) (col a p) := by
  refine col_of_pair hs _ a _ p fun i hi => ?_
  obtain ⟨q, t, e⟩ := place hs i hi
  have e' : (partner 11 s i).val = q.val * (2 * 2 ^ s) + (1 : Fin 2).val * 2 ^ s + t.val := by
    rw [partner_val_of_clear (by omega) i hi, e]; simp; omega
  have e0 : i.val = q.val * (2 * 2 ^ s) + (0 : Fin 2).val * 2 ^ s + t.val := by rw [e]; simp
  have hk : 2 ^ (l + 1) < 2 ^ 32 := Nat.pow_lt_pow_right (by decide) (by omega)
  have hd : (i.val &&& 2 ^ (l + 1) = 0) ↔ (q.val * (2 * 2 ^ s) &&& 2 ^ (l + 1) = 0) := by
    rw [e]; exact testBit_place hsl t.isLt
  unfold stg
  rw [out_apply (groups_mul hs) _ q 0 t p i e0, out_apply (groups_mul hs) _ q 1 t p _ e', exch_lo hk, exch_hi hk,
    in_apply (groups_mul hs) a q 0 t p i e0, in_apply (groups_mul hs) a q 1 t p _ e']
  by_cases hz : q.val * (2 * 2 ^ s) &&& 2 ^ (l + 1) = 0
  · rw [if_pos hz, if_pos hz, decide_eq_true (hd.2 hz)]; exact ⟨rfl, rfl⟩
  · rw [if_neg hz, if_neg hz, decide_eq_false (fun h => hz (hd.1 h))]; exact ⟨rfl, rfl⟩

/-- An undirected stage is the network's stage of the last level on every column. -/
theorem col_up {s : Nat} (hs : s ≤ 10) (a : Tab Ideal) (p : Fin 256) :
    col (shapeCast S2048x256 (exchUp (shapeCast (G4 (2 ^ (10 - s)) (2 ^ s)) a (casts_in (groups_mul hs))))
      (casts_out (groups_mul hs))) p
      = Network.apply (stage 11 s fun i => (decide (i.val &&& 2 ^ (10 + 1) = 0)) == false) (col a p) := by
  refine col_of_pair hs _ a _ p fun i hi => ?_
  obtain ⟨q, t, e⟩ := place hs i hi
  have e' : (partner 11 s i).val = q.val * (2 * 2 ^ s) + (1 : Fin 2).val * 2 ^ s + t.val := by
    rw [partner_val_of_clear (by omega) i hi, e]; simp; omega
  have e0 : i.val = q.val * (2 * 2 ^ s) + (0 : Fin 2).val * 2 ^ s + t.val := by rw [e]; simp
  have hz : i.val &&& 2 ^ (10 + 1) = 0 := by
    rw [and_two_pow_eq_zero_iff_testBit]; exact Nat.testBit_lt_two_pow i.isLt
  rw [out_apply (groups_mul hs) _ q 0 t p i e0, out_apply (groups_mul hs) _ q 1 t p _ e', exchUp_lo, exchUp_hi,
    in_apply (groups_mul hs) a q 0 t p i e0, in_apply (groups_mul hs) a q 1 t p _ e', decide_eq_true hz]
  exact ⟨rfl, rfl⟩

/-! ## The whole network -/

/-- A level's stages from distance `2 ^ s` down. -/
def downNet (l s : Nat) : Network (2 ^ 11) :=
  (List.range (s + 1)).reverse.flatMap fun s => stage 11 s fun i => (decide (i.val &&& 2 ^ (l + 1) = 0)) == false

/-- A level begins with its widest stage. -/
theorem downNet_succ (l s : Nat) : downNet l (s + 1)
    = (stage 11 (s + 1) fun i => (decide (i.val &&& 2 ^ (l + 1) = 0)) == false) ++ downNet l s := by
  unfold downNet
  rw [List.range_succ, List.reverse_append, List.flatMap_append]
  simp

/-- A level ends with the stage of neighbours. -/
theorem downNet_zero (l : Nat) : downNet l 0 = stage 11 0 fun i => (decide (i.val &&& 2 ^ (l + 1) = 0)) == false := by
  unfold downNet; simp

/-- A level's stages act on every column as the network's level. -/
theorem col_down {l : Nat} (hl : l ≤ 9) (p : Fin 256) : ∀ (s : Nat) (hs : s ≤ 10) (_ : s ≤ l) (a : Tab Ideal),
    col (down l s hs a) p = Network.apply (downNet l s) (col a p)
  | 0, hs, hsl, a => by
    rw [downNet_zero]; exact col_stg hs hsl hl a p
  | s + 1, hs, hsl, a => by
    rw [downNet_succ, Network.apply_append, ← col_stg hs hsl hl a p]
    exact col_down hl p s _ (by omega) _

/-- The levels `0` to `l`. -/
def levelsTo (l : Nat) : Network (2 ^ 11) := (List.range (l + 1)).flatMap fun l => downNet l l

/-- One more level comes last. -/
theorem levelsTo_succ (l : Nat) : levelsTo (l + 1) = levelsTo l ++ downNet (l + 1) (l + 1) := by
  unfold levelsTo
  rw [List.range_succ, List.flatMap_append]
  simp

/-- The eleven levels are the bitonic sorting network of 2048 entries. -/
theorem levelsTo_ten : levelsTo 10 = sortNet 11 false := rfl

/-- The levels act on every column as the network's levels. -/
theorem col_levels (p : Fin 256) : ∀ (l : Nat) (hl : l ≤ 10) (_ : l ≤ 9) (a : Tab Ideal),
    col (levels l hl a) p = Network.apply (levelsTo l) (col a p)
  | 0, hl, h9, a => by
    have : levelsTo 0 = downNet 0 0 := by unfold levelsTo; simp
    rw [this]; exact col_down h9 p 0 hl (le_refl _) a
  | l + 1, hl, h9, a => by
    rw [levelsTo_succ, Network.apply_append, ← col_levels p l _ (by omega) a]
    exact col_down h9 p (l + 1) hl (le_refl _) _

/-- The last level's stages act on every column as the network's last level, given its final stage. -/
theorem col_downUp (p : Fin 256) : ∀ (s : Nat) (hs : s ≤ 10) (a b : Tab Ideal)
    (_ : col b p = Network.apply (downNet 10 0) (col (downUp s hs a) p)),
    col b p = Network.apply (downNet 10 s) (col a p)
  | 0, _, _, _, h => h
  | s + 1, hs, a, b, h => by
    rw [downNet_succ, Network.apply_append, ← col_up hs a p]
    exact col_downUp p s _ _ b h

/-- The table after all 66 stages. -/
def sorted (a : Tab Ideal) : Tab Ideal := shapeCast S2048x256 (net a) shapeCasts_S1024x2x1x256_S2048x256

/-- All 66 stages act on every column as the bitonic sorting network. -/
theorem col_sorted (a : Tab Ideal) (p : Fin 256) : col (sorted a) p = Network.apply (sortNet 11 false) (col a p) := by
  rw [← levelsTo_ten, levelsTo_succ, Network.apply_append, ← col_levels p 9 (by decide) (le_refl _) a]
  refine col_downUp p 10 (le_refl _) _ _ ?_
  rw [downNet_zero]
  exact col_up (s := 0) (by decide) _ p

/-- Every column leaves in ascending order. -/
theorem sorted_monotone (a : Tab Ideal) (p : Fin 256) : Monotone (col (sorted a) p) := by
  rw [col_sorted]; exact sortNet_apply_monotone 11 _

/-- Every column leaves as a rearrangement of itself. -/
theorem sorted_perm (a : Tab Ideal) (p : Fin 256) : ∃ σ : Equiv.Perm (Fin (2 ^ 11)), col (sorted a) p = col a p ∘ σ := by
  rw [col_sorted]; exact Network.exists_perm _ _

end Cert.KernelIdeal.Net
-- ==== Proof.Block.lean ====
module

public import proofs.«01_k».proof.Proof.Stage
public import Idealize.ShloMosaic.Lib.Pointwise
public import Idealize.ShloMosaic.Lib.Pipeline.ValueKit
import Mathlib.Tactic.Ring

@[expose] public section

set_option maxRecDepth 16384

/-! What one grid point leaves in the result's block. -/

noncomputable section

namespace Cert.KernelIdeal.Net

open Idealize.ShloMosaic Idealize.SL.Sem
open Cert.KernelIdeal Cert.KernelIdeal.Gen

variable {F : FTy → Type} [FloatOps F]

/-- Three zero offsets. -/
theorem zeros3 : (![0, 0, 0] : Fin 3 → Nat) = fun _ => 0 := funext fun a => by fin_cases a <;> rfl
/-- Two zero offsets. -/
theorem zeros2 : (![0, 0] : Fin 2 → Nat) = fun _ => 0 := funext fun a => by fin_cases a <;> rfl

/-- The result's block after a point: the sums over the sorted table of the point's projections. -/
theorem out_eq (c : Dev nD) (i : grid0.Coords) (arg1 : Memref sig .tc .vmem S1x2048x3 .f32) (harg1 : arg1.IsWhole)
    (arg2 : Memref sig .tc .vmem S1x2048x3 .f32) (harg2 : arg2.IsWhole) (arg3 : Memref sig .tc .vmem S3x128 .f32)
    (harg3 : arg3.IsWhole) (arg4 : Memref sig .tc .vmem S1x1x128 .f32) (harg4 : arg4.IsWhole)
    (x0 : Vec F S1x2048x3 .f32) (x1 : Vec F S1x2048x3 .f32) (x2 : Vec F S3x128 .f32) :
    out0_A_3 c i arg1 harg1 arg2 harg2 arg3 harg3 arg4 harg4 x0 x1 x2 = k0_pay1 (net (proj x0 x1 x2)) := by
  unfold out0_A_3
  rw [View.read_writes_eq_canon _ _ _ (cover0_A_3 c i arg1 harg1 arg2 harg2 arg3 harg3 arg4 harg4 x0 x1 x2), piece0,
    View.canon_unit_zero zeros3]
  have h0 : k0_off1 i = fun _ => 0 := (k0_off1_eq i).trans zeros3
  simp only [View.readAt_eq_ld, harg1.read_unread, harg2.read_unread, harg3.read_unread]
  rw [View.ld_unit_zero (S := S1x2048x3) h0, View.ld_unit_zero (S := S1x2048x3) zeros3, View.ld_unit_zero (S := S3x128) zeros2]

/-- A block's sum at a direction: the squared distances of the two sorted columns. -/
theorem pay1_apply (a : Tab Ideal) (p : Fin 128) :
    k0_pay1 (net a) (ix3 (0 : Fin 1) (0 : Fin 1) p)
      = ∑ r : Fin 2048, (sorted a (ix2 r ⟨p.val, by omega⟩) - sorted a (ix2 r ⟨128 + p.val, by omega⟩))
          * (sorted a (ix2 r ⟨p.val, by omega⟩) - sorted a (ix2 r ⟨128 + p.val, by omega⟩)) := by
  have hp : k0_pay1 (net a) = shapeCast S1x1x128 (multiReduction .add [0] S128
      (mulf (subf (extractStridedSlice S2048x128 ![0, 0] (sorted a) slices_S2048x256_o0_0_S2048x128)
        (extractStridedSlice S2048x128 ![0, 128] (sorted a) slices_S2048x256_o0_128_S2048x128))
        (subf (extractStridedSlice S2048x128 ![0, 0] (sorted a) slices_S2048x256_o0_0_S2048x128)
        (extractStridedSlice S2048x128 ![0, 128] (sorted a) slices_S2048x256_o0_128_S2048x128)))
      0x00000000#32 reduces_S2048x128_S128 (.inl rfl) rfl) shapeCasts_S128_S1x1x128 := rfl
  rw [hp]
  generalize sorted a = b
  pointwise

/-- A projection at a point and a direction. -/
theorem side_apply (v : Vec Ideal S1x2048x3 .f32) (w : Vec Ideal S3x128 .f32) (r : Fin 2048) (p : Fin 128) :
    side v w (ix2 r p) = v (ix3 (0 : Fin 1) r (0 : Fin 3)) * w (ix2 (0 : Fin 3) p)
      + v (ix3 (0 : Fin 1) r (1 : Fin 3)) * w (ix2 (1 : Fin 3) p)
      + v (ix3 (0 : Fin 1) r (2 : Fin 3)) * w (ix2 (2 : Fin 3) p) := by
  unfold side term
  pointwise

/-- The table's first 128 columns are the first set's projections. -/
theorem proj_lo (v2 v4 : Vec Ideal S1x2048x3 .f32) (v6 : Vec Ideal S3x128 .f32) (r : Fin 2048) (p : Fin 128) :
    proj v2 v4 v6 (ix2 r ⟨p.val, by omega⟩) = side v2 v6 (ix2 r p) := by
  unfold proj
  refine concatenate_pair_apply_left (t := S2048x256) (s₁ := S2048x128) (s₂ := S2048x128) (1 : Fin 2) _ _
    concatenates_S2048x128_S2048x128_S2048x256_d1 _ rfl (ix2 r p) (by intro b; fin_cases b <;> rfl)

/-- The table's last 128 columns are the second set's. -/
theorem proj_hi (v2 v4 : Vec Ideal S1x2048x3 .f32) (v6 : Vec Ideal S3x128 .f32) (r : Fin 2048) (p : Fin 128) :
    proj v2 v4 v6 (ix2 r ⟨128 + p.val, by omega⟩) = side v4 v6 (ix2 r p) := by
  unfold proj
  refine concatenate_pair_apply_right (t := S2048x256) (s₁ := S2048x128) (s₂ := S2048x128) (1 : Fin 2) _ _
    concatenates_S2048x128_S2048x128_S2048x256_d1 _ rfl rfl (ix2 r p)
    (by intro b hb; fin_cases b <;> first | rfl | exact absurd rfl hb) (Nat.add_comm _ _)

end Cert.KernelIdeal.Net
-- ==== Proof.Ref.lean ====
module

public import proofs.«01_k».proof.Proof.Gen.ReferenceIdeal.Run
public import Idealize.ShloMosaic.Lib.Pointwise
public import Idealize.ShloMosaic.Lib.SortFacts

@[expose] public section

set_option maxRecDepth 16384

/-! The reference's operations read at an index. -/

noncomputable section

namespace Cert.ReferenceIdeal.Read

open Idealize.ShloMosaic Idealize.SL.Sem
open Cert.ReferenceIdeal Cert.ReferenceIdeal.Gen

/-- Making the zeros and the NaNs canonical changes no extended real. -/
theorem canon_eq (x : EReal) :
    Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
  have h1 : FloatOps.cmpf (F := Ideal) (φ := .f32) .une x x = 0#1 := by
    show BitVec.ofBool (decide (x ≠ x)) = 0#1
    simp
  rw [h1]
  show Scalar.select (FloatOps.cmpf (F := Ideal) (φ := .f32) .oeq x (FloatOps.ofBits (F := Ideal) .f32 0x00000000#32))
        (FloatOps.ofBits (F := Ideal) .f32 0x00000000#32) x = x
  unfold Scalar.select
  split
  · next h =>
    have h2 : BitVec.ofBool (decide (x = FloatOps.ofBits (F := Ideal) .f32 0x00000000#32)) = 1 := h
    by_contra hne
    rw [decide_eq_false (fun e => hne e.symm)] at h2
    exact absurd h2 (by decide)
  · rfl

/-- The reference's order is the order of the extended reals. -/
theorem before_eq (l r : EReal) :
    comparator_f32_d2 (F := Ideal) l r = BitVec.ofBool (decide (l < r)) := by
  unfold comparator_f32_d2
  simp only
  erw [canon_eq l, canon_eq r]
  rfl

/-- The square of an extended real is the second power of its absolute value. -/
theorem pow_two_eq (d : EReal) : Ideal.pow (max d (-d)) (Ideal.ofBits .f32 0x40000000#32) = d * d := by
  have h2 : Ideal.ofBits .f32 0x40000000#32 = ((2 : ℝ) : EReal) := by
    simp [Ideal.ofBits, Ideal.ieee, -EReal.coe_mul]; norm_num
  rw [h2]
  induction d with
  | bot => simp
  | top => simp
  | coe x =>
    have : max (x : EReal) (-(x : EReal)) = ((|x| : ℝ) : EReal) := by
      rw [← EReal.coe_neg]; exact (EReal.coe_strictMono.monotone.map_max (a := x) (b := -x)).symm
    rw [this, Ideal.pow_coe_coe, ← EReal.coe_mul]
    congr 1
    show |x| ^ (2 : ℝ) = x * x
    rw [Real.rpow_two, sq_abs, sq]

/-- The directions' table. -/
abbrev dirs : FVec Ideal S128x3 .f32 := fun i => FloatOps.ofBits .f32 (lit0 (S128x3.rowMajor i))

/-- The projections of a set of points, direction by direction. -/
abbrev projs (A : FVec Ideal S64x2048x3 .f32) : FVec Ideal S64x128x2048 .f32 :=
  transpose S64x128x2048 [1, 0, 2] (Host.dotGeneral dot_S128x3_S64x2048x3_S128x64x2048_1_2_0_01_n_n none dirs A)
    transposes_S128x64x2048_S64x128x2048_1_0_2

/-- A projection is the sum over the three coordinates of direction times point. -/
theorem projs_apply (A : FVec Ideal S64x2048x3 .f32) (b : Fin 64) (p : Fin 128) (r : Fin 2048) :
    projs A (ix3 b p r) = ∑ k : Fin 3, dirs (ix2 p k) * A (ix3 b r k) := by
  unfold projs
  pointwise

/-- The squared distances of two sets of sorted fibers: the sums of the second powers of their absolute differences. -/
abbrev dist (X Y : FVec Ideal S64x128x2048 .f32) : FVec Ideal S64x128 .f32 :=
   Host.reduceAdd (Host.powf (Host.absf (subf X Y)) (broadcastInDim S64x128x2048 ![] bcast_S_S64x128x2048 (constant S_ .f32 0x40000000#32))) (constant S_ .f32 0x00000000#32) reducesTo_S64x128x2048_S64x128_d2 h_S_

/-- A squared distance is the sum of the squared differences. -/
theorem dist_apply (X Y : FVec Ideal S64x128x2048 .f32) (b : Fin 64) (p : Fin 128) :
    dist X Y (ix2 b p) = ∑ r : Fin 2048, (X (ix3 b p r) - Y (ix3 b p r)) * (X (ix3 b p r) - Y (ix3 b p r)) := by
  unfold dist
  pointwise
  exact Finset.sum_congr rfl fun r _ => pow_two_eq _

/-- The order of a fiber's positions. -/
abbrev ord (X : FVec Ideal S64x128x2048 .f32) (b : Fin 64) (p : Fin 128) (k k' : Fin 2048) : Bool :=
  decide (X (ix3 b p k) < X (ix3 b p k'))

/-- The sorted axis is the last of three. -/
theorem axis_lt : 2 < S64x128x2048.rank := by decide

/-- The index with its last coordinate replaced. -/
def at2 (j : S64x128x2048.Idx) (k : Fin 2048) : S64x128x2048.Idx :=
  Shape.Idx.along (s := S64x128x2048) j (⟨2, axis_lt⟩ : Fin S64x128x2048.rank) k

/-- Replacing the last coordinate of an index given by its coordinates. -/
theorem at2_eq (b : Fin 64) (p : Fin 128) (r k : Fin 2048) : at2 (ix3 b p r) k = ix3 b p k := by
  funext a
  unfold at2 Shape.Idx.along
  fin_cases a <;> rfl

/-- A sorted array at an index, by the order of the index's fiber. -/
theorem sort_at2 (X : FVec Ideal S64x128x2048 .f32) (j : S64x128x2048.Idx) (r : Fin 2048) (hr : j ⟨2, axis_lt⟩ = r) :
    Host.sort S64x128x2048 2 comparator_f32_d2 X j
      = X (at2 j (sortedFrom (fun k k' : Fin 2048 => comparator_f32_d2 (F := Ideal) (X (at2 j k)) (X (at2 j k')) == 1#1) r)) := by
  subst hr
  unfold Host.sort
  exact dif_pos axis_lt

/-- The order of an index's fiber is the order of the fiber's entries. -/
theorem ord_eq (X : FVec Ideal S64x128x2048 .f32) (b : Fin 64) (p : Fin 128) (r : Fin 2048) :
    (fun k k' : Fin 2048 => comparator_f32_d2 (F := Ideal) (X (at2 (ix3 b p r) k)) (X (at2 (ix3 b p r) k')) == 1#1) = ord X b p := by
  funext k k'
  rw [at2_eq, at2_eq, before_eq]
  unfold ord
  cases decide (X (ix3 b p k) < X (ix3 b p k')) <;> rfl

/-- A position of the sorted fiber holds the fiber's entry that the order puts there. -/
theorem sort_apply (X : FVec Ideal S64x128x2048 .f32) (b : Fin 64) (p : Fin 128) (r : Fin 2048) :
    Host.sort S64x128x2048 2 comparator_f32_d2 X (ix3 b p r) = X (ix3 b p (sortedFrom (ord X b p) r)) := by
  rw [sort_at2 X (ix3 b p r) r rfl, ord_eq, at2_eq]

/-- A sorted fiber ascends. -/
theorem sort_monotone (X : FVec Ideal S64x128x2048 .f32) (b : Fin 64) (p : Fin 128) :
    Monotone fun r : Fin 2048 => Host.sort S64x128x2048 2 comparator_f32_d2 X (ix3 b p r) := by
  rw [monotone_iff_forall_lt]
  intro i j hij
  show Host.sort S64x128x2048 2 comparator_f32_d2 X (ix3 b p i) ≤ Host.sort S64x128x2048 2 comparator_f32_d2 X (ix3 b p j)
  rw [sort_apply, sort_apply]
  have h := sortedFrom_noInversion (ord X b p) (ord X b p)
    (fun a c h => by
      rw [decide_eq_true_iff] at h
      rw [decide_eq_false_iff_not]
      exact not_lt_of_gt h)
    (fun _ _ h => h)
    (fun a c d h h' => by
      rw [decide_eq_false_iff_not, not_lt] at h h' ⊢
      exact le_trans h' h) i j hij
  rw [decide_eq_false_iff_not, not_lt] at h
  exact h

/-- A sorted fiber is a rearrangement of the fiber. -/
theorem sort_perm (X : FVec Ideal S64x128x2048 .f32) (b : Fin 64) (p : Fin 128) :
    ∃ σ : Equiv.Perm (Fin 2048), (fun r : Fin 2048 => Host.sort S64x128x2048 2 comparator_f32_d2 X (ix3 b p r))
      = (fun r => X (ix3 b p r)) ∘ σ := by
  have hb : Function.Bijective (sortedFrom (ord X b p)) := ⟨sortedFrom_injective _, sortedFrom_surjective _⟩
  refine ⟨Equiv.ofBijective (sortedFrom (ord X b p)) hb, ?_⟩
  funext r
  rw [sort_apply X b p r, Function.comp_apply, Equiv.ofBijective_apply]

end Cert.ReferenceIdeal.Read
-- ==== Proof.Match.lean ====
module

public import proofs.«01_k».proof.Proof.Block
public import proofs.«01_k».proof.Proof.Ref
import Mathlib.Tactic.Ring

@[expose] public section

set_option maxRecDepth 16384

/-! The kernel's block of one batch entry against the reference's row of the same entry. -/

noncomputable section

namespace Cert.Proof.Match

open Idealize.ShloMosaic Idealize.SL.Sem
open Cert.KernelIdeal.Net Cert.ReferenceIdeal.Read

/-- The kernel's table of directions: a column per direction. -/
abbrev kdirs : FVec Ideal Cert.KernelIdeal.S3x128 .f32 :=
  fun i => FloatOps.ofBits .f32 (Cert.KernelIdeal.lit0 (Cert.KernelIdeal.S3x128.rowMajor i))

/-- The two programs' tables carry the same words, one transposed. -/
theorem words_eq : ∀ (d : Fin 3) (p : Fin 128), Cert.KernelIdeal.lit0 (Cert.KernelIdeal.S3x128.rowMajor (ix2 d p))
    = Cert.ReferenceIdeal.lit0 (Cert.ReferenceIdeal.S128x3.rowMajor (ix2 p d)) := by
  decide +kernel

/-- So the tables are each other's transposes. -/
theorem dirs_eq (d : Fin 3) (p : Fin 128) : kdirs (ix2 d p) = dirs (ix2 p d) :=
  congrArg (FloatOps.ofBits (F := Ideal) .f32) (words_eq d p)

/-- The kernel's projections of a batch entry are the reference's. -/
theorem side_eq (v : Vec Ideal Cert.KernelIdeal.S1x2048x3 .f32) (A : FVec Ideal Cert.ReferenceIdeal.S64x2048x3 .f32)
    (b : Fin 64) (hv : ∀ (r : Fin 2048) (k : Fin 3), v (ix3 (0 : Fin 1) r k) = A (ix3 b r k)) (r : Fin 2048) (p : Fin 128) :
    side v kdirs (ix2 r p) = projs A (ix3 b p r) := by
  rw [side_apply, projs_apply, Fin.sum_univ_three, hv, hv, hv, dirs_eq, dirs_eq, dirs_eq]
  rw [mul_comm (A _), mul_comm (A _), mul_comm (A _)]

/-- An ascending column is nowhere above an ascending rearrangement of itself. -/
theorem ascending_le {f g : Fin 2048 → EReal} (hf : Monotone f) (hg : Monotone g) (ρ : Equiv.Perm (Fin 2048))
    (h : ∀ j, f j = g (ρ j)) (i : Fin 2048) : f i ≤ g i := by
  by_contra hlt
  rw [not_le] at hlt
  have hmap : ∀ j ∈ Finset.univ.filter (fun j : Fin 2048 => i ≤ j), ρ j ∈ Finset.univ.filter (fun j : Fin 2048 => i < j) := by
    intro j hj
    rw [Finset.mem_filter] at hj ⊢
    refine ⟨Finset.mem_univ _, ?_⟩
    by_contra hle
    rw [not_lt] at hle
    have h1 : f i ≤ f j := hf hj.2
    have h2 : g (ρ j) ≤ g i := hg hle
    rw [h j] at h1
    exact absurd (lt_of_lt_of_le hlt h1) (not_lt_of_ge h2)
  have hcard := Finset.card_le_card_of_injOn ρ hmap ρ.injective.injOn
  refine absurd hcard (not_le_of_gt (Finset.card_lt_card ?_))
  rw [Finset.ssubset_iff_of_subset (fun j hj => by
    rw [Finset.mem_filter] at hj ⊢
    exact ⟨hj.1, le_of_lt hj.2⟩)]
  refine ⟨i, ?_, ?_⟩
  · rw [Finset.mem_filter]
    exact ⟨Finset.mem_univ _, le_refl i⟩
  · rw [Finset.mem_filter]
    exact fun hi => lt_irrefl i hi.2

/-- Two ascending rearrangements of one column are equal. -/
theorem ascending_unique {f g h : Fin 2048 → EReal} (hf : Monotone f) (hg : Monotone g)
    (hfh : ∃ σ : Equiv.Perm (Fin 2048), f = h ∘ σ) (hgh : ∃ σ : Equiv.Perm (Fin 2048), g = h ∘ σ) : f = g := by
  obtain ⟨σ, hσ⟩ := hfh
  obtain ⟨τ, hτ⟩ := hgh
  funext i
  refine le_antisymm (ascending_le hf hg (σ.trans τ.symm) (fun j => ?_) i) (ascending_le hg hf (τ.trans σ.symm) (fun j => ?_) i)
  · rw [hσ, hτ, Function.comp_apply, Function.comp_apply, Equiv.trans_apply, Equiv.apply_symm_apply]
  · rw [hσ, hτ, Function.comp_apply, Function.comp_apply, Equiv.trans_apply, Equiv.apply_symm_apply]

/-- The reference's sorted projections. -/
abbrev rsort (A : FVec Ideal Cert.ReferenceIdeal.S64x2048x3 .f32) : FVec Ideal Cert.ReferenceIdeal.S64x128x2048 .f32 :=
  Host.sort Cert.ReferenceIdeal.S64x128x2048 2 Cert.ReferenceIdeal.comparator_f32_d2 (projs A)

/-- A column of the sorted table whose entries are a reference's fiber is the reference's sorted fiber. -/
theorem column_eq (a : Tab Ideal) (q : Fin 256) (X : FVec Ideal Cert.ReferenceIdeal.S64x128x2048 .f32) (b : Fin 64) (p : Fin 128)
    (h : ∀ r : Fin 2048, a (ix2 r q) = X (ix3 b p r)) (r : Fin 2048) :
    sorted a (ix2 r q) = Host.sort Cert.ReferenceIdeal.S64x128x2048 2 Cert.ReferenceIdeal.comparator_f32_d2 X (ix3 b p r) := by
  have hc : col a q = fun r : Fin 2048 => X (ix3 b p r) := funext h
  obtain ⟨σ, hσ⟩ := sorted_perm a q
  rw [hc] at hσ
  exact congrFun (ascending_unique (h := fun r : Fin 2048 => X (ix3 b p r)) (sorted_monotone a q) (sort_monotone X b p) ⟨σ, hσ⟩
    (sort_perm X b p)) r

/-- THE BLOCK: what a grid point leaves is the reference's row of squared distances. -/
theorem block_eq (x y : Vec Ideal Cert.KernelIdeal.S1x2048x3 .f32) (A B : FVec Ideal Cert.ReferenceIdeal.S64x2048x3 .f32)
    (b : Fin 64) (hx : ∀ (r : Fin 2048) (k : Fin 3), x (ix3 (0 : Fin 1) r k) = A (ix3 b r k))
    (hy : ∀ (r : Fin 2048) (k : Fin 3), y (ix3 (0 : Fin 1) r k) = B (ix3 b r k)) (p : Fin 128) :
    Cert.KernelIdeal.Gen.k0_pay1 (net (proj x y kdirs)) (ix3 (0 : Fin 1) (0 : Fin 1) p)
      = dist (rsort A) (rsort B) (ix2 b p) := by
  rw [pay1_apply, dist_apply]
  refine Finset.sum_congr rfl fun r _ => ?_
  rw [column_eq (proj x y kdirs) _ (projs A) b p (fun r => (proj_lo x y kdirs r p).trans (side_eq x A b hx r p)) r,
    column_eq (proj x y kdirs) _ (projs B) b p (fun r => (proj_hi x y kdirs r p).trans (side_eq y B b hy r p)) r]

end Cert.Proof.Match

end
-- ==== Proof.Array.lean ====
module

public import proofs.«01_k».proof.Proof.Match
public import proofs.«01_k».proof.Proof.Gen.KernelIdeal.Frame
public import Idealize.ShloMosaic.Lib.Pipeline.ValueKit
public import Idealize.ShloMosaic.Lib.StableHlo.Run
public import Idealize.ShloMosaic.Lib.Tactic

@[expose] public section

set_option maxRecDepth 16384

/-! What the kernel's run leaves: the result array of its grid, then the host lines after it. -/

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Net Cert.Proof.Match

variable (m : (ℓ : Loc nD τ sig) → Buf (Elt Ideal) ℓ)

/-- Which block each window is at, at every grid point. -/
theorem idx : ∀ t : Fin cfg0.N, win0_0.index t = ![t.val, 0, 0] ∧ win0_1.index t = ![t.val, 0, 0]
    ∧ win0_2.index t = ![0, 0] ∧ win0_3.index t = ![t.val, 0, 0] :=
  (by decide +kernel : ∀ t : Fin grid0.N, _)

/-- The batch entry of a grid point. -/
abbrev entry (t : Fin cfg0.N) : Fin 64 := ⟨t.val, t.isLt.trans_eq N_0⟩

/-- The region finds the directions' table as the host line left it. -/
theorem V_cst (c : Dev nD) : V m c main_cst = kdirs := by
  show StableHlo.after (List.flatten [hostOps0]) (fun b => m (c, b)) (Proc.devRef .tc main_cst) = _
  simp only [hostOps0, List.flatten_cons, List.flatten_nil, List.append_nil]
  after_results <;> rfl

/-- The first set's block at a grid point is the point's batch entry. -/
theorem blk0 (c : Dev nD) (t : Fin cfg0.N) (r : Fin 2048) (k : Fin 3) :
    (iblk m c 0 t : Vec Ideal S1x2048x3 .f32) (ix3 (0 : Fin 1) r k)
      = (m ((c : Thread nD τ).loc main_arg0) : FVec Ideal S64x2048x3 .f32) (ix3 (entry t) r k) := by
  rw [← V_main_arg0 m c]
  blk_ext [iblk, (idx t).1]

/-- The second set's block at a grid point is the point's batch entry. -/
theorem blk1 (c : Dev nD) (t : Fin cfg0.N) (r : Fin 2048) (k : Fin 3) :
    (iblk m c 1 t : Vec Ideal S1x2048x3 .f32) (ix3 (0 : Fin 1) r k)
      = (m ((c : Thread nD τ).loc main_arg1) : FVec Ideal S64x2048x3 .f32) (ix3 (entry t) r k) := by
  rw [← V_main_arg1 m c]
  blk_ext [iblk, (idx t).2.1]

/-- The directions' block is the whole table at every grid point. -/
theorem blk2 (c : Dev nD) (t : Fin cfg0.N) : (iblk m c 2 t : Vec Ideal S3x128 .f32) = kdirs := by
  rw [← V_cst m c]
  blk_ext! [iblk, (idx t).2.2.1]

/-- The reference's squared distances, entry by entry and direction by direction, of two sets of points. -/
abbrev distances (A B : FVec Ideal Cert.ReferenceIdeal.S64x2048x3 .f32) : FVec Ideal Cert.ReferenceIdeal.S64x128 .f32 :=
  Cert.ReferenceIdeal.Read.dist (rsort A) (rsort B)

/-- The same with the kernel's unit axis. -/
def blocks (A B : FVec Ideal Cert.ReferenceIdeal.S64x2048x3 .f32) : FVec Ideal S64x1x128 .f32 :=
  fun i => distances A B (ix2 (i 0) (i 2))

/-- A grid point's block at a direction. -/
theorem point (c : Dev nD) (t : Fin cfg0.N) (p : Fin 128) :
    outsAt0 m c t (ix3 (0 : Fin 1) (0 : Fin 1) p)
      = distances (m ((c : Thread nD τ).loc main_arg0)) (m ((c : Thread nD τ).loc main_arg1)) (ix2 (entry t) p) := by
  unfold outsAt0
  rw [out_eq, blk2]
  exact block_eq _ _ _ _ (entry t) (blk0 m c t) (blk1 m c t) p

/-- THE ARRAY: after the grid it holds the reference's squared distances. -/
theorem final (c : Dev nD) : (dats m 0 c).arrAt 3 (cfgs 0).N
    = blocks (m ((c : Thread nD τ).loc main_arg0)) (m ((c : Thread nD τ).loc main_arg1)) := by
  refine (dats m 0 c).arrAt_eq_of_covers 3 _ (by decide +kernel) fun t _ y => ?_
  blk_simp
  rw [after0_3]
  have hy : y = ix3 (0 : Fin 1) (0 : Fin 1) (y 2) := by
    funext a
    fin_cases a
    · exact Subsingleton.elim (α := Fin 1) _ _
    · exact Subsingleton.elim (α := Fin 1) _ _
    · rfl
  refine (congrArg (outsAt0 m c t) hy).trans ((point m c t (y 2)).trans ?_)
  unfold blocks
  generalize distances (m ((c : Thread nD τ).loc main_arg0)) (m ((c : Thread nD τ).loc main_arg1)) = D
  blk_ext [(idx t).2.2.2]

/-- The mean over the batch of the square roots of the means over the directions: the lines after the grid. -/
abbrev average (D : FVec Ideal S64x128 .f32) : FVec Ideal S_ .f32 :=
  Host.divf (Host.reduceAdd (Host.sqrt (Host.divf (Host.reduceAdd D (constant S_ .f32 0x00000000#32) reducesTo_S64x128_S64_d1 h_S_)
    (broadcastInDim S64 ![] bcast_S_S64 (constant S_ .f32 0x43000000#32)))) (constant S_ .f32 0x00000000#32) reducesTo_S64_S_d0 h_S_)
    (constant S_ .f32 0x42800000#32)

/-- Dropping the unit axis leaves the reference's squared distances. -/
theorem drop_unit (A B : FVec Ideal Cert.ReferenceIdeal.S64x2048x3 .f32) :
    shapeCast S64x128 (blocks A B) shapeCasts_S64x1x128_S64x128 = distances A B := by
  funext j
  unfold blocks
  generalize distances A B = D
  pointwise

/-- The result's buffer after the lines that follow the grid. -/
theorem tail (c : Dev nD) : Pipeline.afterTail₀ cfgs (dats m) 0 (V0 m) [hostOps1] c main_v7
    = average (distances (m ((c : Thread nD τ).loc main_arg0)) (m ((c : Thread nD τ).loc main_arg1))) := by
  rw [← drop_unit, ← final m c]
  unfold Pipeline.afterTail₀
  simp only [hostOps1, List.flatten_cons, List.flatten_nil, List.append_nil]
  after_results
  rw [Pipeline.withArrays_arr _ launch0.win.arr_inj _ _ _ 3]
  rfl

/-- THE RUN: the result ends at the reference's average of the distances of the arguments, the arguments unchanged. -/
theorem run (g : Dev nD → PrngReg) :
    θ_run defs (onTc (τ := τ) (main (F := Ideal))) ⟨m, fun _ => 0, g⟩ fun r => ∀ c : Dev nD,
      r.2.mem ((c.tc : Thread nD τ).loc main_v7)
          = average (distances (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v7 (by decide +kernel)).trans (tail m c), h.2 c⟩)
    (θ_run_and (run_main m g) (unchanged m g))

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import Idealize.ShloMosaic.Adequacy
public import Idealize.ShloMosaic.Init

@[expose] public section

noncomputable section

namespace Cert.Proof

open Idealize.ShloMosaic Idealize.SL.Sem Cert.Kernel

/-- The reference ends with its arguments unchanged and, declaring no semaphore, with every counter at zero. -/
theorem reference_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- From equal arguments the kernel and the reference end with the same result, over the extended reals. -/
theorem algebraic : Cert.algebraic_KernelIdeal_ReferenceIdeal := by
  intro m g m' g' _ hagree
  refine ⟨fun c => Cert.KernelIdeal.Run.average (Cert.KernelIdeal.Run.distances
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Run.run m g, ?_⟩
  refine (θ_run Cert.ReferenceIdeal.defs _ _).mono (fun r h c => ⟨(h c).1.trans ?_, (h c).2⟩)
    (Cert.ReferenceIdeal.Value.run (F := Ideal) m' g')
  rw [(hagree c).1, (hagree c).2]

/-- Everything claimed of the three programs. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
